-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_each_length_is_one [hPre_each_length_is_one : Cert.Pre_each_length_is_one.Facts] (m : (ℓ : Loc Cert.KernelIdeal.nD Cert.KernelIdeal.τ Cert.KernelIdeal.sig) → Buf (Elt Ideal) ℓ) : Prop :=
  ∀ c : Dev Cert.KernelIdeal.nD,
    (Cert.Pre_each_length_is_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_each_length_is_one [hPre_each_length_is_one : Cert.Pre_each_length_is_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_each_length_is_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_each_length_is_one [hKernelIdeal : Cert.KernelIdeal.Facts] [hPre_each_length_is_one : Cert.Pre_each_length_is_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_each_length_is_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_each_length_is_one [hReferenceIdeal : Cert.ReferenceIdeal.Facts] [hPre_each_length_is_one : Cert.Pre_each_length_is_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_each_length_is_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_each_length_is_one [hKernelIdeal : Cert.KernelIdeal.Facts] [hReferenceIdeal : Cert.ReferenceIdeal.Facts] [hPre_each_length_is_one : Cert.Pre_each_length_is_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_each_length_is_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_each_length_is_one : Cert.Pre_each_length_is_one.Facts),
    quiescent_Kernel (hKernel := hKernel)
    ∧ quiescent_KernelIdeal (hKernelIdeal := hKernelIdeal)
    ∧ quiescent_KernelIdeal_pre_each_length_is_one (hKernelIdeal := hKernelIdeal) (hPre_each_length_is_one := hPre_each_length_is_one)
    ∧ quiescent_ReferenceIdeal (hReferenceIdeal := hReferenceIdeal)
    ∧ quiescent_ReferenceIdeal_pre_each_length_is_one (hReferenceIdeal := hReferenceIdeal) (hPre_each_length_is_one := hPre_each_length_is_one)
    ∧ preserves_Kernel_KernelIdeal
    ∧ algebraic_KernelIdeal_ReferenceIdeal_pre_each_length_is_one (hKernelIdeal := hKernelIdeal) (hReferenceIdeal := hReferenceIdeal) (hPre_each_length_is_one := hPre_each_length_is_one)
-- ==== Pre_each_length_is_one.lean ====
abbrev S16384x40 : Shape := ⟨2, ![16384, 40]⟩
abbrev S16384 : Shape := ⟨1, ![16384]⟩
abbrev S64x40 : Shape := ⟨2, ![64, 40]⟩
abbrev S64 : Shape := ⟨1, ![64]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x40 .f32) (main_arg1 : IVec S16384 32) (main_arg2 : FVec F S64x40 .f32) (main_arg3 : FVec F S64 .f32) : IVec S_ 1 :=
  let main_c : IVec S_ 32 := constantI S_ 32 1#32
  let main_v0 : IVec S16384 32 := broadcastInDim S16384 ![] bcast_S_S16384 main_c
  let main_v1 : IVec S16384 1 := cmpi .eq main_arg1 main_v0
  let main_c_0 : IVec S_ 1 := constantI S_ 1 1#1
  let main_v2 : IVec S_ 1 := (fun x v => Host.reduce IntOp.andi x v reducesTo_S16384_S_d0 h_S_) main_v1 main_c_0
  main_v2
-- ==== Kernel.lean ====
abbrev S16384x40 : Shape := ⟨2, ![16384, 40]⟩
abbrev S16384 : Shape := ⟨1, ![16384]⟩
abbrev S64x40 : Shape := ⟨2, ![64, 40]⟩
abbrev S64 : Shape := ⟨1, ![64]⟩
abbrev S40x64 : Shape := ⟨2, ![40, 64]⟩
abbrev S1x64 : Shape := ⟨2, ![1, 64]⟩
abbrev S16384x64 : Shape := ⟨2, ![16384, 64]⟩
abbrev S4096x40 : Shape := ⟨2, ![4096, 40]⟩
abbrev S4096x64 : Shape := ⟨2, ![4096, 64]⟩

abbrev nBuf : Space → Nat
  | .hbm => 7
  | .vmem => 6
  | .smem => 0
  | _ => 0

abbrev bufTy : (tb : Table) → Fin (tcTables nBuf tb) → BufTy
  | .hbm, ⟨0, _⟩ => ⟨S16384x40, .f32⟩
  | .hbm, ⟨1, _⟩ => ⟨S16384, .i32⟩
  | .hbm, ⟨2, _⟩ => ⟨S64x40, .f32⟩
  | .hbm, ⟨3, _⟩ => ⟨S64, .f32⟩
  | .hbm, ⟨4, _⟩ => ⟨S40x64, .f32⟩
  | .hbm, ⟨5, _⟩ => ⟨S1x64, .f32⟩
  | .hbm, ⟨6, _⟩ => ⟨S16384x64, .f32⟩
  | .local _ .vmem, ⟨0, _⟩ => ⟨S4096x40, .f32⟩
  | .local _ .vmem, ⟨1, _⟩ => ⟨S4096x40, .f32⟩
  | .local _ .vmem, ⟨2, _⟩ => ⟨S40x64, .f32⟩
  | .local _ .vmem, ⟨3, _⟩ => ⟨S1x64, .f32⟩
  | .local _ .vmem, ⟨4, _⟩ => ⟨S4096x64, .f32⟩
  | .local _ .vmem, ⟨5, _⟩ => ⟨S4096x64, .f32⟩
  | _, _ => ⟨S16384x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x40 : Shape := ⟨2, ![16384, 40]⟩
abbrev S16384 : Shape := ⟨1, ![16384]⟩
abbrev S64x40 : Shape := ⟨2, ![64, 40]⟩
abbrev S64 : Shape := ⟨1, ![64]⟩
abbrev S1 : Shape := ⟨1, ![1]⟩
abbrev S16383 : Shape := ⟨1, ![16383]⟩
abbrev S_ : Shape := ⟨0, ![]⟩
abbrev S16384x1 : Shape := ⟨2, ![16384, 1]⟩
abbrev S1x1 : Shape := ⟨2, ![1, 1]⟩
abbrev S40x64 : Shape := ⟨2, ![40, 64]⟩
abbrev S16384x64 : Shape := ⟨2, ![16384, 64]⟩
abbrev S1x64 : Shape := ⟨2, ![1, 64]⟩

abbrev nBuf : Space → Nat
  | .hbm => 72
  | .vmem => 0
  | .smem => 0
  | _ => 0

abbrev bufTy : (tb : Table) → Fin (tcTables nBuf tb) → BufTy
  | .hbm, ⟨0, _⟩ => ⟨S16384x40, .f32⟩
  | .hbm, ⟨1, _⟩ => ⟨S16384, .i32⟩
  | .hbm, ⟨2, _⟩ => ⟨S64x40, .f32⟩
  | .hbm, ⟨3, _⟩ => ⟨S64, .f32⟩
  | .hbm, ⟨4, _⟩ => ⟨S16384, .i32⟩
  | .hbm, ⟨5, _⟩ => ⟨S1, .i32⟩
  | .hbm, ⟨6, _⟩ => ⟨S16383, .i32⟩
  | .hbm, ⟨7, _⟩ => ⟨S16384, .i32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S16384, .i32⟩
  | .hbm, ⟨12, _⟩ => ⟨S_, .i32⟩
  | .hbm, ⟨13, _⟩ => ⟨S_, .i32⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384x1, .i32⟩
  | .hbm, ⟨25, _⟩ => ⟨S_, .i32⟩
  | .hbm, ⟨26, _⟩ => ⟨S16384, .i32⟩
  | .hbm, ⟨27, _⟩ => ⟨S16384, .i32⟩
  | .hbm, ⟨28, _⟩ => ⟨S_, .i32⟩
  | .hbm, ⟨29, _⟩ => ⟨S_, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S16384x1, .i32⟩
  | .hbm, ⟨42, _⟩ => ⟨S1, .i32⟩
  | .hbm, ⟨43, _⟩ => ⟨S_, .i32⟩
  | .hbm, ⟨44, _⟩ => ⟨S16384x1, .i32⟩
  | .hbm, ⟨45, _⟩ => ⟨S16384x1, .i1⟩
  | .hbm, ⟨46, _⟩ => ⟨S1x1, .i32⟩
  | .hbm, ⟨47, _⟩ => ⟨S16384x1, .i32⟩
  | .hbm, ⟨48, _⟩ => ⟨S16384x1, .i1⟩
  | .hbm, ⟨49, _⟩ => ⟨S16384x1, .i1⟩
  | .hbm, ⟨50, _⟩ => ⟨S_, .i1⟩
  | .hbm, ⟨51, _⟩ => ⟨S16384, .i1⟩
  | .hbm, ⟨52, _⟩ => ⟨S16384, .i32⟩
  | .hbm, ⟨53, _⟩ => ⟨S_, .i32⟩
  | .hbm, ⟨54, _⟩ => ⟨S16384, .i32⟩
  | .hbm, ⟨55, _⟩ => ⟨S16384, .i32⟩
  | .hbm, ⟨56, _⟩ => ⟨S_, .f32⟩
  | .hbm, ⟨57, _⟩ => ⟨S16384x40, .f32⟩
  | .hbm, ⟨58, _⟩ => ⟨S16384x1, .i32⟩
  | .hbm, ⟨59, _⟩ => ⟨S16384x40, .f32⟩
  | .hbm, ⟨60, _⟩ => ⟨S16384x1, .i32⟩
  | .hbm, ⟨61, _⟩ => ⟨S16384x1, .f32⟩
  | .hbm, ⟨62, _⟩ => ⟨S16384x40, .f32⟩
  | .hbm, ⟨63, _⟩ => ⟨S16384x40, .f32⟩
  | .hbm, ⟨64, _⟩ => ⟨S40x64, .f32⟩
  | .hbm, ⟨65, _⟩ => ⟨S16384x64, .f32⟩
  | .hbm, ⟨66, _⟩ => ⟨S1x64, .f32⟩
  | .hbm, ⟨67, _⟩ => ⟨S16384x64, .f32⟩
  | .hbm, ⟨68, _⟩ => ⟨S16384x64, .f32⟩
  | .hbm, ⟨69, _⟩ => ⟨S_, .f32⟩
  | .hbm, ⟨70, _⟩ => ⟨S16384x64, .f32⟩
  | .hbm, ⟨71, _⟩ => ⟨S16384x64, .f32⟩
  | _, _ => ⟨S16384x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_call1_call0_c : Ref sig .tc := ⟨.hbm, 12, rfl⟩
abbrev main_call1_call0_v0 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_c_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_call2_call0_c : Ref sig .tc := ⟨.hbm, 28, rfl⟩
abbrev main_call2_call0_v0 : Ref sig .tc := ⟨.hbm, 29, rfl⟩
abbrev main_v14 : Ref sig .tc := ⟨.hbm, 30, rfl⟩
abbrev main_c_5 : Ref sig .tc := ⟨.hbm, 31, rfl⟩
abbrev main_v15 : Ref sig .tc := ⟨.hbm, 32, rfl⟩
abbrev main_v16 : Ref sig .tc := ⟨.hbm, 33, rfl⟩
abbrev main_call3_c : Ref sig .tc := ⟨.hbm, 34, rfl⟩
abbrev main_call3_v0 : Ref sig .tc := ⟨.hbm, 35, rfl⟩
abbrev main_call3_v1 : Ref sig .tc := ⟨.hbm, 36, rfl⟩
abbrev main_call3_c_0 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_call3_v5 : Ref sig .tc := ⟨.hbm, 41, rfl⟩
abbrev main_call3_c_1 : Ref sig .tc := ⟨.hbm, 42, rfl⟩
abbrev main_call3_c_2 : Ref sig .tc := ⟨.hbm, 43, rfl⟩
abbrev main_call3_v6 : Ref sig .tc := ⟨.hbm, 44, rfl⟩
abbrev main_call3_v7 : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_call3_v11 : Ref sig .tc := ⟨.hbm, 49, rfl⟩
abbrev main_call3_c_3 : Ref sig .tc := ⟨.hbm, 50, rfl⟩
abbrev main_call3_v12 : Ref sig .tc := ⟨.hbm, 51, rfl⟩
abbrev main_call3_v13 : Ref sig .tc := ⟨.hbm, 52, rfl⟩
abbrev main_call3_c_4 : Ref sig .tc := ⟨.hbm, 53, rfl⟩
abbrev main_call3_v14 : Ref sig .tc := ⟨.hbm, 54, rfl⟩
abbrev main_v17 : Ref sig .tc := ⟨.hbm, 55, rfl⟩
abbrev main_cst : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_call4_cst : Ref sig .tc := ⟨.hbm, 69, rfl⟩
abbrev main_call4_v0 : Ref sig .tc := ⟨.hbm, 70, rfl⟩
abbrev main_v30 : Ref sig .tc := ⟨.hbm, 71, rfl⟩

abbrev nD : Nat := 1
abbrev τ : Topo := Topo.v7x

variable {F : FTy → Type} [FloatOps F]
-- ==== Proof.Lengths.lean ====
/-
  Hand-written, untrusted. What the precondition says of the lengths.
-/
module

public import proofs.«01_k».proof.Defs
public import Idealize.ShloMosaic.Lib.ReduceAll
public import Idealize.ShloMosaic.Lib.ValueIdxCore
public import Idealize.ShloMosaic.Lib.StableHlo.Predicate

@[expose] public section

noncomputable section

namespace Cert.Proof.Lengths

open Cert.Pre_each_length_is_one
open Idealize.ShloMosaic Idealize.ShloMosaic.ValueIdx

variable [Cert.Pre_each_length_is_one.Facts]

/-- Where the precondition holds, every length is one. -/
theorem all_one (a0 : FVec Ideal S16384x40 .f32) (a1 : IVec S16384 32) (a2 : FVec Ideal S64x40 .f32) (a3 : FVec Ideal S64 .f32)
    (h : fn (F := Ideal) a0 a1 a2 a3 = fun _ => 1#1) (i : S16384.Idx) : a1 i = 1#32 := by
  have : Subsingleton S_.Idx := ⟨fun a b => (eq_ix0 a).trans (eq_ix0 b).symm⟩
  have e := congrFun h ix0
  dsimp only [fn] at e
  have hi := Host.reduce_andi_all _ _ _ _ _ e i
  exact StableHlo.Predicate.cmpi_eq_iff.1 hi

end Cert.Proof.Lengths

end
-- ==== Proof.Layer.lean ====
/-
  Hand-written, untrusted. The function both programs are shown to compute: a linear layer followed by a rectifier, on extended reals.
-/
module

public import Idealize.ShloMosaic.PureOps
public import Idealize.ShloMosaic.PureOps.Ideal.Laws
public import Idealize.ShloMosaic.Lib.ValueIdxCore

@[expose] public section

noncomputable section

namespace Cert.Proof

open Idealize.ShloMosaic Idealize.ShloMosaic.ValueIdx

/-- Row `r` of the features against row `c` of the weights, plus entry `c` of the bias, and zero where that is negative. -/
def layerAt (x : (⟨2, ![16384, 40]⟩ : Shape).Idx → EReal) (w : (⟨2, ![64, 40]⟩ : Shape).Idx → EReal)
    (b : (⟨1, ![64]⟩ : Shape).Idx → EReal) (r : Fin 16384) (c : Fin 64) : EReal :=
  max ((∑ k : Fin 40, x (ix2 r k) * w (ix2 c k)) + b (ix1 c)) 0

/-- The whole result array: `layerAt` at each index's row and column. -/
def layer (x : (⟨2, ![16384, 40]⟩ : Shape).Idx → EReal) (w : (⟨2, ![64, 40]⟩ : Shape).Idx → EReal)
    (b : (⟨1, ![64]⟩ : Shape).Idx → EReal) : (⟨2, ![16384, 64]⟩ : Shape).Idx → EReal :=
  fun i => layerAt x w b (i 0) (i 1)

end Cert.Proof

end
-- ==== Proof.Segments.lean ====
/-
  Hand-written, untrusted. The reference's segment numbers when every length is one: segment `p` then holds the one row `p`, so the
  repeated index array is the count 0, 1, 2, …
-/
module

public import proofs.«01_k».proof.Defs
public import proofs.«01_k».proof.Proof.Gen.ReferenceIdeal.Read
public import Idealize.ShloMosaic.Lib.Routing.Ops
public import Idealize.ShloMosaic.Lib.Routing.OpsOne
public import Idealize.ShloMosaic.Lib.Routing.OpsSet
public import Idealize.ShloMosaic.Lib.Routing.OpsPair
public import Idealize.ShloMosaic.Lib.ReduceAll

@[expose] public section

noncomputable section

namespace Cert.Proof.Segments

open Cert.ReferenceIdeal Cert.ReferenceIdeal.Gen Cert.ReferenceIdeal.Read
open Idealize.ShloMosaic Idealize.ShloMosaic.ValueIdx Idealize.ShloMosaic.Routing

variable (x1 : IVec S16384 32)

/-- The lengths rolled by one place are still all one. -/
theorem rolled_one (hx : ∀ i, x1 i = 1#32) (i : S16384.Idx) : val_main_v1 (F := Ideal) x1 i = 1#32 := by
  obtain ⟨e, rfl⟩ : ∃ e : Fin 16384, i = ix1 e := ⟨_, eq_ix1 i⟩
  unfold val_main_v1
  by_cases h : e.val = 0
  · rw [concatenate_pair_apply_left (t := S16384) (s₁ := S1) (s₂ := S16383) 0 _ _ concatenates_S1_S16383_S16384_d0 (ix1 e) rfl (ix1 (0 : Fin 1))
      (fun b => match b with | ⟨0, _⟩ => h.symm), val_main_call0_v0_apply, hx]
  · have he := e.isLt
    rw [concatenate_pair_apply_right (t := S16384) (s₁ := S1) (s₂ := S16383) 0 _ _ concatenates_S1_S16383_S16384_d0 (ix1 e) rfl rfl
      (ix1 (⟨e.val - 1, by omega⟩ : Fin 16383)) (fun b hb => absurd (Subsingleton.elim (α := Fin 1) _ _) hb)
      (by show e.val - 1 + 1 = e.val; omega), val_main_call0_v1_apply, hx]

/-- With its first entry set to zero: zero, then ones. -/
theorem shifted_apply (hx : ∀ i, x1 i = 1#32) (e : Fin 16384) :
    val_main_v3 (F := Ideal) x1 (ix1 e) = BitVec.ofNat 32 (if e.val = 0 then 0 else 1) := by
  unfold val_main_v3
  refine (scatter_one (N := 16384) scatter_S16384_S1_S__n_0_0_0 rfl rfl _ _ _ (0 : Fin 16384) (by decide) ?_ e).trans ?_
  · rw [val_main_v2_apply]; rfl
  · by_cases h : e.val = 0
    · rw [if_pos (Fin.ext h), if_pos h]; rfl
    · rw [if_neg fun q => h (congrArg Fin.val q), if_neg h, rolled_one x1 hx]

/-- Of the numbers below `n + 1`, all but the first count one: their running sum is `n`. -/
theorem sum_after_first (n : Nat) : ((List.range (n + 1)).map fun i => if i = 0 then 0 else 1).sum = n := by
  induction n with
  | zero => rfl
  | succ n ih => rw [List.range_succ, List.map_append, List.sum_append, ih]; simp

/-- A running sum of ones counts its terms. -/
theorem sum_ones (n : Nat) : ((List.range n).map fun _ => 1).sum = n := by simp

/-- The running sums of the shifted lengths, each segment's first row: segment `j` starts at row `j`. -/
theorem starts_apply (hx : ∀ i, x1 i = 1#32) (j : Fin 16384) : val_main_v4 (F := Ideal) x1 (ix1 j) = BitVec.ofNat 32 j.val := by
  unfold val_main_v4
  refine (cumsum1 (N := 16384) (Nm1 := 16383) rfl _ (fun i => if i = 0 then 0 else 1) (shifted_apply x1 hx) _ ?_ _ _ j).trans ?_
  · rw [val_main_call1_call0_v0_apply]; rfl
  · rw [sum_after_first]

/-- A row number read as a word is below the signed bound. -/
theorem row_small (j : Fin 16384) : (BitVec.ofNat 32 j.val).toNat < 2 ^ (32 - 1) := by
  have := j.isLt
  rw [BitVec.toNat_ofNat]; omega

/-- No start is negative, so wrapping leaves them as they are. -/
theorem wrapped_apply (hx : ∀ i, x1 i = 1#32) (j : Fin 16384) : val_main_v10 (F := Ideal) x1 (ix1 j) = BitVec.ofNat 32 j.val := by
  rw [val_main_v10_apply, val_main_v7_apply, val_main_v6_apply, val_main_c_2_apply, starts_apply x1 hx]
  exact wrap_of_lt _ _ (row_small j)

/-- Exactly one of the numbers below `n` is `x`, when `x` is below `n`. -/
theorem count_self (n x : Nat) (h : x < n) : Nat.count (fun i => i = x) n = 1 := by
  induction n with
  | zero => omega
  | succ n ih =>
    rw [Nat.count_succ]
    by_cases hx : x < n
    · rw [ih hx, if_neg (by omega)]
    · have hz : Nat.count (fun i => i = x) n = 0 := by
        rw [Nat.count_eq_card_filter_range, Finset.card_eq_zero, Finset.filter_eq_empty_iff]
        intro i hi; have := Finset.mem_range.1 hi; omega
      rw [hz, if_pos (by omega)]

/-- Each row is the start of exactly one segment. -/
theorem marks_apply (hx : ∀ i, x1 i = 1#32) (j : Fin 16384) : val_main_v13 (F := Ideal) x1 (ix1 j) = BitVec.ofNat 32 1 := by
  unfold val_main_v13
  refine (scatter_hist (N := 16384) scatter_S16384_S16384x1_S16384_n_0_0_1 rfl rfl rfl _ ?_ _ _ ?_ (fun i => i) ?_ ?_ j).trans ?_
  · intro i; rw [val_main_v5_apply]; rfl
  · intro i; rw [val_main_v12_apply]; rfl
  · intro i
    have e : idx_main_v11 (ix2 i (0 : Fin 1)) = ix1 i := eq_ix1 _
    rw [val_main_v11_apply, e]; exact wrapped_apply x1 hx i
  · intro i; have := i.isLt; show i.val < 2 ^ 31; omega
  · rw [count_self _ _ j.isLt]

/-- So the running count of segments started, less one, is the row number. -/
theorem segment_apply (hx : ∀ i, x1 i = 1#32) (j : Fin 16384) : val_main_v16 (F := Ideal) x1 (ix1 j) = BitVec.ofNat 32 j.val := by
  have h14 : val_main_v14 (F := Ideal) x1 (ix1 j) = BitVec.ofNat 32 (j.val + 1) := by
    unfold val_main_v14
    refine (cumsum1 (N := 16384) (Nm1 := 16383) rfl _ (fun _ => 1) (marks_apply x1 hx) _ ?_ _ _ j).trans ?_
    · rw [val_main_call2_call0_v0_apply]; rfl
    · rw [sum_ones]
  have h15 : val_main_v15 (F := Ideal) (ix1 j) = 1#32 := by rw [val_main_v15_apply]; rfl
  rw [val_main_v16_apply, h14, h15]
  show BitVec.ofNat 32 (j.val + 1) - 1#32 = _
  rw [show BitVec.ofNat 32 (j.val + 1) = BitVec.ofNat 32 j.val + 1#32 from BitVec.ofNat_add _ _, BitVec.add_sub_cancel]

/-- The index column of the take: row `p` holds `p`. -/
theorem taken_index (hx : ∀ i, x1 i = 1#32) (p : Fin 16384) (z : Fin 1) :
    val_main_call3_v5 (F := Ideal) x1 (ix2 p z) = BitVec.ofNat 32 p.val := by
  rw [val_main_call3_v5_apply]
  have e : idx_main_call3_v5 (ix2 p z) = ix1 p := eq_ix1 _
  rw [e, val_main_call3_v4_apply, val_main_call3_v1_apply, val_main_call3_v0_apply, val_main_call3_c_apply, segment_apply x1 hx]
  exact wrap_of_lt _ _ (row_small p)

/-- Every index is inside the array the take reads. -/
theorem inside (hx : ∀ i, x1 i = 1#32) (i : S16384x1.Idx) : val_main_call3_v11 (F := Ideal) x1 i = 1#1 := by
  obtain ⟨p, z, rfl⟩ : ∃ (p : Fin 16384) (z : Fin 1), i = ix2 p z := ⟨_, _, eq_ix2 i⟩
  have hp := p.isLt
  have hi : (BitVec.ofNat 32 p.val).toInt = (p.val : Int) := StableHlo.Predicate.toInt_ofNat_small _ (by omega)
  rw [val_main_call3_v11_apply, val_main_call3_v7_apply, val_main_call3_v10_apply, taken_index x1 hx, val_main_call3_v6_apply,
    val_main_call3_c_2_apply, val_main_call3_v9_apply, val_main_call3_v8_apply, val_main_call3_c_1_apply]
  have h7 : IntOp.cmpi .sge (BitVec.ofNat 32 p.val) 0#32 = 1#1 := IntOp.cmpi_sge.2 (by rw [hi]; simp)
  have h10 : IntOp.cmpi .sle (BitVec.ofNat 32 p.val) 16383#32 = 1#1 := IntOp.cmpi_sle.2 (by
    rw [hi, show (16383#32).toInt = (16383 : Int) from by decide]; omega)
  rw [h7, h10]; rfl

/-- THE SEGMENT NUMBERS: row `p` belongs to segment `p`. -/
theorem segment_ids (hx : ∀ i, x1 i = 1#32) (p : Fin 16384) (z : Fin 1) :
    val_main_v19 (F := Ideal) x1 (ix2 p z) = BitVec.ofNat 32 p.val := by
  rw [val_main_v19_apply]
  have e : idx_main_v19 (ix2 p z) = ix1 p := eq_ix1 _
  have h12 : val_main_call3_v12 (F := Ideal) x1 (ix1 p) = 1#1 := by
    unfold val_main_call3_v12
    exact Host.reduce_andi_one _ _ _ _ _ rfl (inside x1 hx)
  have h13 : val_main_call3_v13 (F := Ideal) x1 (ix1 p) = BitVec.ofNat 32 p.val := by
    unfold val_main_call3_v13
    exact (gather_take1 (N := 16384) (n := 16384) gather_S16384_S16384x1_S16384_n_0_n_n_0_1_1 rfl rfl rfl rfl _ _ p p
      (taken_index x1 hx p 0) (by decide)).trans (by rw [val_main_v0_apply])
  rw [e, val_main_v17_apply, h12, h13]
  exact select_one _ _

end Cert.Proof.Segments

end
-- ==== Proof.Pooled.lean ====
/-
  Hand-written, untrusted. What the reference computes when every length is one: the segment sums are the feature rows themselves,
  dividing by one changes nothing, and the rest is the layer.
-/
module

public import proofs.«01_k».proof.Proof.Layer
public import proofs.«01_k».proof.Proof.Segments

@[expose] public section

noncomputable section

namespace Cert.Proof.Pooled

open Cert.ReferenceIdeal Cert.ReferenceIdeal.Gen Cert.ReferenceIdeal.Read
open Idealize.ShloMosaic Idealize.ShloMosaic.ValueIdx Idealize.ShloMosaic.Routing

/-- The dimension numbers of the segment sum: whole rows added at the row an index names. -/
abbrev rows : ScatterDims S16384x40 S16384x1 S16384x40 := scatter_S16384x40_S16384x1_S16384x40_1_0_0_1

/-- The index word of the update at row `p` is entry `p` of the index column, whatever the update's column. -/
theorem row_start (idx : IVec S16384x1 32) (p : Fin 16384) (q : Fin 40) :
    rows.start (ix2 p q) idx 0 = (idx (ix2 p (0 : Fin 1))).toInt := by
  unfold ScatterDims.start
  rw [dif_pos (show (0 : Fin S16384x40.rank) ∈ rows.scatterDimsToOperandDims by decide)]
  refine congrArg (fun i => (idx i).toInt) (funext fun a => Fin.ext ?_)
  match a with
  | ⟨0, _⟩ =>
    unfold ScatterDims.siIdx
    rw [dif_neg (show ¬(0 : Nat) = rows.indexVectorDim by decide)]
    rfl
  | ⟨1, _⟩ =>
    unfold ScatterDims.siIdx
    rw [dif_pos (show (1 : Nat) = rows.indexVectorDim by decide)]
    rfl

/-- Columns have no index word: they start at zero. -/
theorem col_start (idx : IVec S16384x1 32) (p : Fin 16384) (q : Fin 40) : rows.start (ix2 p q) idx 1 = 0 := by
  unfold ScatterDims.start
  rw [dif_neg (show ¬(1 : Fin S16384x40.rank) ∈ rows.scatterDimsToOperandDims by decide)]

/-- An update is one row high. -/
theorem row_window (p : Fin 16384) (q : Fin 40) : rows.window (ix2 p q) 0 = 0 := by
  unfold ScatterDims.window
  rw [dif_neg (show ¬(0 : Fin S16384x40.rank) ∈ rows.sKept by decide)]

/-- Its columns are the result's columns. -/
theorem col_window (p : Fin 16384) (q : Fin 40) : rows.window (ix2 p q) 1 = q.val := by
  unfold ScatterDims.window
  rw [dif_pos (show (1 : Fin S16384x40.rank) ∈ rows.sKept by decide)]
  rfl

/-- With segment numbers `0, 1, 2, …` the update at an index lands at that index and nowhere else. -/
theorem lands_in_place (idx : IVec S16384x1 32) (h : ∀ p : Fin 16384, idx (ix2 p (0 : Fin 1)) = BitVec.ofNat 32 p.val)
    (j i : S16384x40.Idx) : rows.resultIdx? j idx = some i ↔ j = i := by
  obtain ⟨p, q, rfl⟩ : ∃ (p : Fin 16384) (q : Fin 40), j = ix2 p q := ⟨_, _, eq_ix2 j⟩
  obtain ⟨r, c, rfl⟩ : ∃ (r : Fin 16384) (c : Fin 40), i = ix2 r c := ⟨_, _, eq_ix2 i⟩
  have hp := p.isLt
  rw [resultIdx?_ix2, row_start, col_start, row_window, col_window, h, StableHlo.Predicate.toInt_ofNat_small _ (by omega)]
  constructor
  · rintro ⟨h0, h1⟩
    rw [show p = r from Fin.ext (by omega), show q = c from Fin.ext (by omega)]
  · intro e
    have e0 : p = r := congrFun e 0
    have e1 : q = c := congrFun e 1
    subst e0 e1
    constructor <;> omega

variable (x0 : FVec Ideal S16384x40 .f32) (x1 : IVec S16384 32) (x2 : FVec Ideal S64x40 .f32) (x3 : FVec Ideal S64 .f32)

/-- The pattern of all zero bits is the number zero. -/
theorem zero_word : (FloatOps.ofBits .f32 0x00000000#32 : Ideal .f32) = (0 : EReal) := by
  show Ideal.ofBits .f32 0x00000000#32 = 0
  simp [Ideal.ofBits, Ideal.ieee]

/-- The segment sums are the feature rows: each segment holds one row. -/
theorem sums_apply (hx : ∀ i, x1 i = 1#32) (i : S16384x40.Idx) : val_main_v20 (F := Ideal) x0 x1 i = x0 i := by
  unfold val_main_v20
  show FloatOps.hostScatterAdd rows .single _ _ x0 i = x0 i
  rw [Ideal.hostScatterAdd_def]
  unfold Ideal.hostScatterAdd
  have hs : (Finset.univ.filter fun j => rows.resultIdx? j (val_main_v19 (F := Ideal) x1) = some i) = {i} := by
    ext j
    rw [Finset.mem_filter, Finset.mem_singleton,
      lands_in_place _ (fun p => Segments.segment_ids x1 hx p 0) j i]
    simp
  rw [hs, Finset.sum_singleton, val_main_v18_apply, val_main_cst_apply, zero_word]
  exact zero_add _

/-- Dividing by a length of one leaves the rows as they are. -/
theorem pooled_apply (hx : ∀ i, x1 i = 1#32) (i : S16384x40.Idx) : val_main_v24 (F := Ideal) x0 x1 i = x0 i := by
  rw [val_main_v24_apply, sums_apply x0 x1 hx, val_main_v23_apply, val_main_v22_apply, val_main_v21_apply, hx]
  show Ideal.div (x0 i) (((1#32 : BitVec 32).toInt : ℝ) : EReal) = x0 i
  rw [show ((1#32 : BitVec 32).toInt : ℝ) = 1 from by norm_num, Ideal.div_coe one_ne_zero]
  simp

/-- WHAT THE REFERENCE COMPUTES: the layer of the features, the weights and the bias. -/
theorem reference_eq (hx : ∀ i, x1 i = 1#32) : val_main_v30 (F := Ideal) x0 x1 x2 x3 = layer x0 x2 x3 := by
  funext i
  rw [val_main_v30_apply, val_main_v29_apply, val_main_v28_apply, val_main_v27_apply, val_main_call4_v0_apply,
    val_main_call4_cst_apply, zero_word, val_main_v26_apply]
  have hb : idx_main_v27 (idx_main_v28 i) = ix1 (i 1) := eq_ix1 _
  have hs : (∑ k : Fin 40, val_main_v24 (F := Ideal) x0 x1 (lidx_main_v26 i k) * val_main_v25 (F := Ideal) x2 (ridx_main_v26 i k))
      = ∑ k : Fin 40, x0 (ix2 (i 0) k) * x2 (ix2 (i 1) k) := by
    refine Finset.sum_congr rfl fun k _ => ?_
    have hl : lidx_main_v26 i k = ix2 (i 0) k := eq_ix2 _
    have hr : idx_main_v25 (ridx_main_v26 i k) = ix2 (i 1) k := eq_ix2 _
    rw [pooled_apply x0 x1 hx, val_main_v25_apply, hl, hr]
    rfl
  rw [hs, hb]
  rfl

end Cert.Proof.Pooled

end
-- ==== Proof.Block.lean ====
/-
  Hand-written, untrusted. What the kernel's body computes from the three blocks it loads, at the ideal instance.
-/
module

public import proofs.«01_k».proof.Defs
public import proofs.«01_k».proof.Proof.Gen.KernelIdeal.Skeleton
public import Idealize.ShloMosaic.Lib.Pipeline.Value
public import Idealize.ShloMosaic.Lib.ValueIdx
public import Idealize.ShloMosaic.Lib.MatmulPlain
public import Idealize.ShloMosaic.PureOps.Ideal.Laws

@[expose] public section

noncomputable section

namespace Cert.Proof.Block

open Cert.KernelIdeal Cert.KernelIdeal.Gen
open Idealize.ShloMosaic Idealize.ShloMosaic.ValueIdx

/-- The pattern of all zero bits is the number zero. -/
theorem zero_bits : Ideal.ofBits .f32 0x00000000#32 = 0 := by
  simp [Ideal.ofBits, Ideal.ieee]

/-- The body's product at row `r`, column `c`: the sum over the 40 features. -/
theorem product_apply (x : FVec Ideal S4096x40 .f32) (w : FVec Ideal S40x64 .f32) (r : Fin 4096) (c : Fin 64) :
    matmul dot_S4096x40_S40x64_S4096x64_1_0_0_1_n_n none x w (constant S4096x64 .f32 0x00000000#32) (ix2 r c)
      = ∑ k : Fin 40, x (ix2 r k) * w (ix2 k c) := by
  refine (Ideal.matmul_plain_apply (M := 4096) (K := 40) (N := 64) none x w (constant S4096x64 .f32 0x00000000#32) r c).trans ?_
  rw [show (constant (F := Ideal) S4096x64 .f32 0x00000000#32 (ix2 r c) : EReal) = 0 from zero_bits]
  exact zero_add _

/-- The bias row repeated down the block, at row `r`, column `c`, is the row's entry `c`. -/
theorem bias_apply (b : FVec Ideal S1x64 .f32) (r : Fin 4096) (c : Fin 64) :
    broadcastTo S4096x64 b broadcasts_S1x64_S4096x64 (ix2 r c) = b (ix2 (0 : Fin 1) c) :=
  broadcastTo_apply b _ _ _ fun a => match a with
    | ⟨0, _⟩ => rfl
    | ⟨1, _⟩ => rfl

/-- ONE BLOCK: the product plus the bias, and zero where that is negative. -/
theorem payload_apply (x : FVec Ideal S4096x40 .f32) (w : FVec Ideal S40x64 .f32) (b : FVec Ideal S1x64 .f32) (r : Fin 4096) (c : Fin 64) :
    k0_pay1 (F := Ideal) x w b (ix2 r c) = max ((∑ k : Fin 40, x (ix2 r k) * w (ix2 k c)) + b (ix2 (0 : Fin 1) c)) (0 : EReal) := by
  show max (matmul dot_S4096x40_S40x64_S4096x64_1_0_0_1_n_n none x (shapeCast S40x64 w shapeCasts_S40x64_S40x64)
        (constant S4096x64 .f32 0x00000000#32) (ix2 r c)
      + broadcastTo S4096x64 (shapeCast S1x64 b shapeCasts_S1x64_S1x64) broadcasts_S1x64_S4096x64 (ix2 r c))
      (Ideal.ofBits .f32 0x00000000#32) = _
  rw [shapeCast_self, shapeCast_self, product_apply, bias_apply, zero_bits]

end Cert.Proof.Block

end
-- ==== Proof.Result.lean ====
/-
  Hand-written, untrusted. What the kernel's result array holds after its run, at the ideal instance: the layer of the argument arrays.
  Each of the four points writes 4096 rows; the blocks tile the array.
-/
module

public import proofs.«01_k».proof.Proof.Layer
public import proofs.«01_k».proof.Proof.Block
public import proofs.«01_k».proof.Proof.Gen.KernelIdeal.Value
public import Idealize.ShloMosaic.Lib.ValueLayout

@[expose] public section

noncomputable section

namespace Cert.Proof.Result

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The four arrays at entry and the layer of them. -/
abbrev whole (c : Dev nD) : Buf (Elt Ideal) ((c : Thread nD τ).loc main_v2) :=
  layer (m ((c : Thread nD τ).loc main_arg0)) (m ((c : Thread nD τ).loc main_arg2)) (m ((c : Thread nD τ).loc main_arg3))

/-! ## The arrays the kernel reads -/

/-- The weights the kernel reads are the argument transposed. -/
theorem weights_eq (c : Dev nD) : V m c main_v0
    = (transpose S40x64 [1, 0] (m ((c : Thread nD τ).loc main_arg2)) transposes_S64x40_S40x64_1_0 : FVec Ideal S40x64 .f32) := by
  show StableHlo.after hostOps0 (fun b => m (c, b)) (Proc.devRef .tc main_v0) = _
  after_results

/-- The bias the kernel reads is the argument as one row. -/
theorem bias_eq (c : Dev nD) : V m c main_v1
    = (shapeCast S1x64 (m ((c : Thread nD τ).loc main_arg3)) shapeCasts_S64_S1x64 : FVec Ideal S1x64 .f32) := by
  show StableHlo.after hostOps0 (fun b => m (c, b)) (Proc.devRef .tc main_v1) = _
  after_results
  rfl

/-! ## The blocks -/

/-- Where the windows' blocks start: the features' and the result's at row block `t`, the others at the origin. -/
theorem idx_facts : ∀ t : Fin cfg0.N, win0_0.index t 0 = t.val ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0 :=
  (by decide +kernel : ∀ t : Fin grid0.N, win0_0.index t 0 = t.val ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0)

/-- A row of a block is a row of the array. -/
theorem row_lt (t : Fin cfg0.N) (r : Fin 4096) : t.val * 4096 + r.val < 16384 := by
  have ht : t.val < 4 := t.isLt
  have hr := r.isLt
  omega

/-- Row `r` of the features' block `t` is row `4096 t + r` of the features. -/
theorem features_block (c : Dev nD) (t : Fin cfg0.N) (r : Fin 4096) (k : Fin 40) :
    (iblk m c 0 t : FVec Ideal S4096x40 .f32) (ix2 r k)
      = (m ((c : Thread nD τ).loc main_arg0) : FVec Ideal S16384x40 .f32) (ix2 (⟨t.val * 4096 + r.val, row_lt t r⟩ : Fin 16384) k) := by
  obtain ⟨h0, h1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 4096 + 1 * r.val = t.val * 4096 + r.val; rw [h0]; omega
  | ⟨1, _⟩ => show win0_0.index t 1 * 40 + 1 * k.val = k.val; rw [h1]; omega

/-- The weights' block is the whole transposed array: entry `(k, q)` is entry `(q, k)` of the argument. -/
theorem weights_block (c : Dev nD) (t : Fin cfg0.N) (k : Fin 40) (q : Fin 64) :
    (iblk m c 1 t : FVec Ideal S40x64 .f32) (ix2 k q) = (m ((c : Thread nD τ).loc main_arg2) : FVec Ideal S64x40 .f32) (ix2 q k) := by
  obtain ⟨-, -, h0, h1, -⟩ := idx_facts t
  unfold iblk
  rw [View.read_apply]
  show V m c main_v0 _ = _
  rw [weights_eq]
  refine transpose_apply [1, 0] (m ((c : Thread nD τ).loc main_arg2)) transposes_S64x40_S40x64_1_0 _ (ix2 q k) fun b => ?_
  match b with
  | ⟨0, _⟩ => show k.val = win0_1.index t 0 * 40 + 1 * k.val; rw [h0]; omega
  | ⟨1, _⟩ => show q.val = win0_1.index t 1 * 64 + 1 * q.val; rw [h1]; omega

/-- The bias's block is the whole row: entry `(0, q)` is entry `q` of the argument. -/
theorem bias_block (c : Dev nD) (t : Fin cfg0.N) (q : Fin 64) :
    (iblk m c 2 t : FVec Ideal S1x64 .f32) (ix2 (0 : Fin 1) q) = (m ((c : Thread nD τ).loc main_arg3) : FVec Ideal S64 .f32) (ix1 q) := by
  obtain ⟨-, -, -, -, h0, h1, -⟩ := idx_facts t
  unfold iblk
  rw [View.read_apply]
  show V m c main_v1 _ = _
  rw [bias_eq]
  refine Eq.trans (congrArg (shapeCast S1x64 (m ((c : Thread nD τ).loc main_arg3)) shapeCasts_S64_S1x64) (funext fun a => Fin.ext ?_))
    (shapeCast_a_1a_apply (a := 64) (m ((c : Thread nD τ).loc main_arg3)) shapeCasts_S64_S1x64 (0 : Fin 1) q)
  match a with
  | ⟨0, _⟩ => show win0_2.index t 0 * 1 + 1 * 0 = 0; rw [h0]
  | ⟨1, _⟩ => show win0_2.index t 1 * 64 + 1 * q.val = q.val; rw [h1]; omega

/-- The body reads its buffers whole and its one store fills the result's: what it leaves is its payload. -/
theorem out_eq (x : FVec Ideal S4096x40 .f32) (w : FVec Ideal S40x64 .f32) (b : FVec Ideal S1x64 .f32) :
    out0_3 (F := Ideal) x w b = k0_pay1 (F := Ideal) x w b := by
  have hz : (![0, 0] : Fin 2 → Nat) = fun _ => 0 := funext fun a => by fin_cases a <;> rfl
  unfold out0_3
  rw [View.canon_unit_zero (S := S4096x64) hz, View.ld_unit_zero (S := S4096x40) hz, View.ld_unit_zero (S := S40x64) hz,
    View.ld_unit_zero (S := S1x64) hz]

/-- WHAT POINT `t` WRITES BACK is block `t` of the layer. -/
theorem flushed_eq (c : Dev nD) (t : Fin cfg0.N) :
    (dats m 0 c).flushed 3 t = ((cfg0.win 3).blk t).view.read (Elt Ideal) (whole m c) := by
  obtain ⟨-, -, -, -, -, -, h0, h1⟩ := idx_facts t
  rw [Value.flushed3, out_eq]
  refine funext fun (y : S4096x64.Idx) => ?_
  obtain ⟨r, q, rfl⟩ : ∃ (r : Fin 4096) (q : Fin 64), y = ix2 r q := ⟨_, _, eq_ix2 y⟩
  rw [View.read_apply]
  show k0_pay1 (F := Ideal) (iblk m c 0 t) (iblk m c 1 t) (iblk m c 2 t) (ix2 r q) = _
  rw [Block.payload_apply, bias_block]
  have hi : ((cfg0.win 3).blk t).view.emb (ix2 r q)
      = (ix2 (⟨t.val * 4096 + r.val, row_lt t r⟩ : Fin 16384) q : S16384x64.Idx) := by
    funext a
    apply Fin.ext
    match a with
    | ⟨0, _⟩ => show win0_3.index t 0 * 4096 + 1 * r.val = t.val * 4096 + r.val; rw [h0]; omega
    | ⟨1, _⟩ => show win0_3.index t 1 * 64 + 1 * q.val = q.val; rw [h1]; omega
  rw [hi]
  show _ = layerAt _ _ _ (⟨t.val * 4096 + r.val, row_lt t r⟩ : Fin 16384) q
  unfold layerAt
  simp only [features_block, weights_block]

/-! ## The whole array -/

/-- An index is in point `t`'s block when its row is one of the 4096 that start at `4096 t`. -/
theorem mem_blk (t : Fin cfg0.N) (i : S16384x64.Idx) :
    i ∈ ((cfg0.win 3).blk t).view.set ↔ t.val * 4096 ≤ (i 0 : Nat) ∧ (i 0 : Nat) < t.val * 4096 + 4096 := by
  show i ∈ ((View.whole main_v2).slice (win0_3.rect t)).set ↔ _
  rw [View.set_slice_whole, Rect.mem_set_unit]
  obtain ⟨-, -, -, -, -, -, h0, h1⟩ := idx_facts t
  have hc : (i 1 : Nat) < 64 := (i 1).isLt
  constructor
  · intro h
    have h : win0_3.index t 0 * 4096 ≤ (i 0 : Nat) ∧ (i 0 : Nat) < win0_3.index t 0 * 4096 + 4096 := h 0
    rw [h0] at h; exact h
  · intro h a
    match a with
    | ⟨0, _⟩ =>
      show win0_3.index t 0 * 4096 ≤ (i 0 : Nat) ∧ (i 0 : Nat) < win0_3.index t 0 * 4096 + 4096
      rw [h0]; exact h
    | ⟨1, _⟩ =>
      show win0_3.index t 1 * 64 ≤ (i 1 : Nat) ∧ (i 1 : Nat) < win0_3.index t 1 * 64 + 64
      rw [h1]; omega

/-- Every index is in the block of the point its row falls to. -/
theorem cover (i : S16384x64.Idx) : ∃ t : Fin cfg0.N, (cfg0.win 3).flush t = true ∧ i ∈ ((cfg0.win 3).blk t).view.set := by
  have hr : (i 0 : Nat) < 16384 := (i 0).isLt
  have hN : cfg0.N = 4 := N_0
  refine ⟨⟨(i 0 : Nat) / 4096, by omega⟩, flush0_3 _, ?_⟩
  rw [mem_blk]
  dsimp only
  omega

/-- THE RESULT ARRAY after the run is the layer of the arguments. -/
theorem final_eq (c : Dev nD) : (dats m 0 c).arrAt 3 cfg0.N = whole m c :=
  (dats m 0 c).arrAt_eq_of_cover 3 (whole m c) (fun t _ => flushed_eq m c t) cover

/-- The run: the result array at the layer, the four arguments unchanged. -/
theorem run : θ_run (defs (F := Ideal)) (onTc (τ := τ) (main (F := Ideal))) ⟨m, fun _ => 0, ρ⟩ fun r => ∀ c : Dev nD,
      r.2.mem ((c.tc : Thread nD τ).loc main_v2) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_eq m c), (h c).2⟩) (Value.run_blocks m ρ)

end Cert.Proof.Result

end
-- ==== Proof.lean ====
/-
  Hand-written, untrusted. The proof of `Cert.Claim`: every program's run keeps its arguments and ends with its counters at zero, and
  the kernel and the reference leave equal results when every length is one — both leave the layer (Proof/Layer.lean) of the arguments:
  the kernel by Proof/Result.lean, the reference by Proof/Pooled.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_each_length_is_one
public import proofs.«01_k».proof.Proof.Gen.KernelIdeal.Value
public import proofs.«01_k».proof.Proof.Gen.ReferenceIdeal.Run
public import proofs.«01_k».proof.Proof.Gen.ReferenceIdeal.Read
public import proofs.«01_k».proof.Proof.Lengths
public import proofs.«01_k».proof.Proof.Pooled
public import proofs.«01_k».proof.Proof.Result
public import Idealize.ShloMosaic.Lib.Quiescent
public import Idealize.ShloMosaic.Adequacy
public import Idealize.ShloMosaic.Init

@[expose] public section

noncomputable section

namespace Cert.Proof

open Idealize.ShloMosaic Idealize.SL.Sem

/-- The reference's run keeps its four arguments; it declares no semaphore, so every counter is zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- THE EQUATION: where every length is one, the kernel's result and the reference's are the layer of the same arguments. -/
theorem equal_results : Cert.algebraic_KernelIdeal_ReferenceIdeal_pre_each_length_is_one
    (hPre_each_length_is_one := Cert.Pre_each_length_is_one.Gen.facts) := by
  intro m g m' g' hpre hargs
  refine ⟨fun c => Result.whole m c, Result.run m g, ?_⟩
  refine (θ_run Cert.ReferenceIdeal.defs _ _).mono (fun _ h c => ⟨(h c).1.trans ?_, (h c).2⟩)
    (Cert.ReferenceIdeal.Value.run (F := Ideal) m' g')
  obtain ⟨e0, e1, e2, e3⟩ := hargs c
  have hone := Lengths.all_one _ _ _ _ (hpre c)
  rw [Cert.ReferenceIdeal.Read.val_main_v30_eq, e0, e1, e2, e3]
  exact Pooled.reference_eq _ _ _ _ hone

/-- Every claim of the certificate. -/
theorem claim : Cert.Claim := ⟨Cert.Kernel.Gen.facts, Cert.KernelIdeal.Gen.facts, Cert.ReferenceIdeal.Gen.facts, Cert.Pre_each_length_is_one.Gen.facts,
  fun m g _ => Cert.Kernel.Gen.frame m g, fun m g _ => Cert.KernelIdeal.Gen.frame m g, fun m g _ => Cert.KernelIdeal.Gen.frame m g,
  fun m g _ => reference_frame m g, fun m g _ => reference_frame m g, trivial, equal_results⟩

end Cert.Proof

end
